-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x14080 : Shape := ⟨3, ![24, 1, 14080]⟩
abbrev S2x5504x14080 : Shape := ⟨3, ![2, 5504, 14080]⟩
abbrev S2x5504 : Shape := ⟨2, ![2, 5504]⟩
abbrev S24x14080 : Shape := ⟨2, ![24, 14080]⟩
abbrev S24x5504 : Shape := ⟨2, ![24, 5504]⟩
abbrev S2x128x14080 : Shape := ⟨3, ![2, 128, 14080]⟩
abbrev S2x128 : Shape := ⟨2, ![2, 128]⟩
abbrev S24x128 : Shape := ⟨2, ![24, 128]⟩
abbrev S1x128x14080 : Shape := ⟨3, ![1, 128, 14080]⟩
abbrev S128x14080 : Shape := ⟨2, ![128, 14080]⟩
abbrev S1x128 : Shape := ⟨2, ![1, 128]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S24x1x14080, .bf16⟩
  | .hbm, ⟨1, _⟩ => ⟨S2x5504x14080, .i8⟩
  | .hbm, ⟨2, _⟩ => ⟨S2x5504, .f32⟩
  | .hbm, ⟨3, _⟩ => ⟨S24x14080, .bf16⟩
  | .hbm, ⟨4, _⟩ => ⟨S24x5504, .bf16⟩
  | .local _ .vmem, ⟨0, _⟩ => ⟨S24x14080, .bf16⟩
  | .local _ .vmem, ⟨1, _⟩ => ⟨S2x128x14080, .i8⟩
  | .local _ .vmem, ⟨2, _⟩ => ⟨S2x128x14080, .i8⟩
  | .local _ .vmem, ⟨3, _⟩ => ⟨S2x128, .f32⟩
  | .local _ .vmem, ⟨4, _⟩ => ⟨S2x128, .f32⟩
  | .local _ .vmem, ⟨5, _⟩ => ⟨S24x128, .bf16⟩
  | .local _ .vmem, ⟨6, _⟩ => ⟨S24x128, .bf16⟩
  | _, _ => ⟨S24x1x14080, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x14080 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x14080 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24x1x14080 : Shape := ⟨3, ![24, 1, 14080]⟩
abbrev S2x5504x14080 : Shape := ⟨3, ![2, 5504, 14080]⟩
abbrev S2x5504 : Shape := ⟨2, ![2, 5504]⟩
abbrev S1x5504x14080 : Shape := ⟨3, ![1, 5504, 14080]⟩
abbrev S5504x14080 : Shape := ⟨2, ![5504, 14080]⟩
abbrev S1x5504 : Shape := ⟨2, ![1, 5504]⟩
abbrev S5504 : Shape := ⟨1, ![5504]⟩
abbrev S24x1x5504 : Shape := ⟨3, ![24, 1, 5504]⟩
abbrev S1x1x5504 : Shape := ⟨3, ![1, 1, 5504]⟩
abbrev S_ : Shape := ⟨0, ![]⟩
abbrev S24x5504 : Shape := ⟨2, ![24, 5504]⟩

abbrev nBuf : Space → Nat
  | .hbm => 37
  | .vmem => 0
  | .smem => 0
  | _ => 0

abbrev bufTy : (tb : Table) → Fin (tcTables nBuf tb) → BufTy
  | .hbm, ⟨0, _⟩ => ⟨S24x1x14080, .bf16⟩
  | .hbm, ⟨1, _⟩ => ⟨S2x5504x14080, .i8⟩
  | .hbm, ⟨2, _⟩ => ⟨S2x5504, .f32⟩
  | .hbm, ⟨3, _⟩ => ⟨S1x5504x14080, .i8⟩
  | .hbm, ⟨4, _⟩ => ⟨S5504x14080, .i8⟩
  | .hbm, ⟨5, _⟩ => ⟨S1x5504, .f32⟩
  | .hbm, ⟨6, _⟩ => ⟨S5504, .f32⟩
  | .hbm, ⟨7, _⟩ => ⟨S5504x14080, .i32⟩
  | .hbm, ⟨8, _⟩ => ⟨S5504x14080, .f32⟩
  | .hbm, ⟨9, _⟩ => ⟨S5504x14080, .bf16⟩
  | .hbm, ⟨10, _⟩ => ⟨S24x1x5504, .f32⟩
  | .hbm, ⟨11, _⟩ => ⟨S1x1x5504, .f32⟩
  | .hbm, ⟨12, _⟩ => ⟨S24x1x5504, .f32⟩
  | .hbm, ⟨13, _⟩ => ⟨S24x1x5504, .f32⟩
  | .hbm, ⟨14, _⟩ => ⟨S1x5504x14080, .i8⟩
  | .hbm, ⟨15, _⟩ => ⟨S5504x14080, .i8⟩
  | .hbm, ⟨16, _⟩ => ⟨S1x5504, .f32⟩
  | .hbm, ⟨17, _⟩ => ⟨S5504, .f32⟩
  | .hbm, ⟨18, _⟩ => ⟨S5504x14080, .i32⟩
  | .hbm, ⟨19, _⟩ => ⟨S5504x14080, .f32⟩
  | .hbm, ⟨20, _⟩ => ⟨S5504x14080, .bf16⟩
  | .hbm, ⟨21, _⟩ => ⟨S24x1x5504, .f32⟩
  | .hbm, ⟨22, _⟩ => ⟨S1x1x5504, .f32⟩
  | .hbm, ⟨23, _⟩ => ⟨S24x1x5504, .f32⟩
  | .hbm, ⟨24, _⟩ => ⟨S24x1x5504, .f32⟩
  | .hbm, ⟨25, _⟩ => ⟨S24x1x5504, .f32⟩
  | .hbm, ⟨26, _⟩ => ⟨S24x1x5504, .f32⟩
  | .hbm, ⟨27, _⟩ => ⟨S_, .f32⟩
  | .hbm, ⟨28, _⟩ => ⟨S24x1x5504, .f32⟩
  | .hbm, ⟨29, _⟩ => ⟨S24x1x5504, .f32⟩
  | .hbm, ⟨30, _⟩ => ⟨S_, .f32⟩
  | .hbm, ⟨31, _⟩ => ⟨S24x1x5504, .f32⟩
  | .hbm, ⟨32, _⟩ => ⟨S24x1x5504, .f32⟩
  | .hbm, ⟨33, _⟩ => ⟨S24x1x5504, .f32⟩
  | .hbm, ⟨34, _⟩ => ⟨S24x1x5504, .f32⟩
  | .hbm, ⟨35, _⟩ => ⟨S24x1x5504, .bf16⟩
  | .hbm, ⟨36, _⟩ => ⟨S24x5504, .bf16⟩
  | _, _ => ⟨S24x1x14080, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Spec.lean ====
/-
  Hand-written, untrusted. The function that the kernel and the reference compute over the extended reals, written
  out index by index over plain coordinates.
-/
module

public import Idealize.ShloMosaic.PureOps.Ideal
public import Idealize.ShloMosaic.Lib.Pointwise

@[expose] public section

noncomputable section

namespace Cert.GatedLinear

open Idealize.ShloMosaic

/-- One scaled linear layer at token `r` and output channel `n`: the activations times the codes, summed over the
    `14080` input channels, times the channel's scale. -/
def lin (x : Fin 24 → Fin 14080 → EReal) (w : Fin 14080 → BitVec 8) (s : EReal) (r : Fin 24) : EReal :=
  (∑ k : Fin 14080, x r k * (((w k).toInt : ℝ) : EReal)) * s

/-- The gated product of two layers' outputs: `silu g · u`. -/
def gated (g u : EReal) : EReal := g * Ideal.logistic g * u

/-- The gated linear layer at token `r` and output channel `n`, of the argument arrays. -/
def layer (x : (⟨3, ![24, 1, 14080]⟩ : Shape).Idx → EReal) (w : (⟨3, ![2, 5504, 14080]⟩ : Shape).Idx → BitVec 8)
    (s : (⟨2, ![2, 5504]⟩ : Shape).Idx → EReal) (r : Fin 24) (n : Fin 5504) : EReal :=
  gated (lin (fun r k => x (ix3 r 0 k)) (fun k => w (ix3 0 n k)) (s (ix2 0 n)) r)
    (lin (fun r k => x (ix3 r 0 k)) (fun k => w (ix3 1 n k)) (s (ix2 1 n)) r)

/-- Equal rows, codes and scales give equal linear layers. -/
theorem lin_congr {x x' : Fin 24 → Fin 14080 → EReal} {w w' : Fin 14080 → BitVec 8}
    {s s' : EReal} {r r' : Fin 24} (hx : ∀ k, x r k = x' r' k) (hw : ∀ k, w k = w' k) (hs : s = s') :
    lin x w s r = lin x' w' s' r' := by
  unfold lin
  rw [hs, Finset.sum_congr rfl fun k _ => by rw [hx k, hw k]]

end Cert.GatedLinear

end
-- ==== Proof.Ref.lean ====
/-
  Hand-written, untrusted. What the reference computes, read at an index.
-/
module

public import proofs.«01_k».proof.Proof.Spec
public import proofs.«01_k».proof.Proof.Gen.ReferenceIdeal.Run

@[expose] public section

noncomputable section

namespace Cert.ReferenceIdeal.RefValue

open Cert.ReferenceIdeal Cert.ReferenceIdeal.Gen Cert.GatedLinear Idealize.ShloMosaic Idealize.ShloMosaic.TcCoe Idealize.SL.Sem

variable (m : (ℓ : Loc nD τ sig) → Buf (Elt Ideal) ℓ) (ρ : Dev nD → PrngReg)

/-- An int8 code widened to int32 and converted to a float is the code read as a signed integer. -/
theorem code_eq (b : BitVec 8) : FloatOps.sitofp (F := Ideal) .f32 (BitVec.signExtend 32 b) = ((b.toInt : ℝ) : EReal) := by
  show (((BitVec.signExtend 32 b).toInt : ℝ) : EReal) = _
  rw [BitVec.toInt_signExtend_of_le (by decide)]

/-- The reference's run: its result at token `r` and output channel `n` is the gated linear layer of the arguments,
    which end unchanged. -/
theorem run : θ_run defs (onTc (τ := τ) (main (F := Ideal))) ⟨m, fun _ => 0, ρ⟩ fun r => ∀ c : Dev nD,
      (r.2.mem ((c.tc : Thread nD τ).loc main_v25) = fun i : S24x5504.Idx =>
        layer (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  generalize m ((c.tc : Thread nD τ).loc main_arg0) = x
  generalize m ((c.tc : Thread nD τ).loc main_arg1) = w
  generalize m ((c.tc : Thread nD τ).loc main_arg2) = s
  funext i
  pointwise [layer, gated, lin, Ideal.logistic]
  simp only [code_eq]

end Cert.ReferenceIdeal.RefValue

end
-- ==== Proof.Block.lean ====
/-
  Hand-written, untrusted. What one grid point of the kernel computes: the stored block at an index, as a function of
  the loaded blocks.
-/
module

public import proofs.«01_k».proof.Proof.Spec
public import proofs.«01_k».proof.Proof.Gen.KernelIdeal.Skeleton

@[expose] public section

noncomputable section

namespace Cert.KernelIdeal.BlockValue

open Cert.KernelIdeal Cert.KernelIdeal.Gen Cert.GatedLinear Idealize.ShloMosaic

/-- The body's stored value at token `r` and block column `j` is the gated product of the two linear layers of the
    loaded blocks. -/
theorem pay_apply (x : Vec Ideal S24x14080 .bf16) (w0 : Vec Ideal S1x128x14080 .i8) (s0 : Vec Ideal S1x128 .f32)
    (w1 : Vec Ideal S1x128x14080 .i8) (s1 : Vec Ideal S1x128 .f32) (r : Fin 24) (j : Fin 128) :
    k0_pay1 x w0 s0 w1 s1 (ix2 r j)
      = gated (lin (fun r k => x (ix2 r k)) (fun k => w0 (ix3 0 j k)) (s0 (ix2 0 j)) r)
          (lin (fun r k => x (ix2 r k)) (fun k => w1 (ix3 0 j k)) (s1 (ix2 0 j)) r) := by
  pointwise [k0_pay1, gated, lin]
  rfl

end Cert.KernelIdeal.BlockValue

end
-- ==== Proof.KernelValue.lean ====
/-
  Hand-written, untrusted. What the kernel's result array holds after the run: at every index the gated linear layer of
  the arguments. Each grid point writes back its block of that one function, and the 43 blocks tile the array.
-/
module

public import proofs.«01_k».proof.Proof.Block
public import proofs.«01_k».proof.Proof.Gen.KernelIdeal.Value

@[expose] public section

noncomputable section

namespace Cert.KernelIdeal.KernelValue

open Cert.KernelIdeal Cert.KernelIdeal.Gen Cert.KernelIdeal.BlockValue Cert.GatedLinear
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gated linear layer of device `c`'s arguments, as one array. -/
def G (c : Dev nD) : Buf (Elt Ideal) ((c : Thread nD τ).loc main_v1) := fun i : S24x5504.Idx =>
  layer (m ((c : Thread nD τ).loc main_arg0)) (m ((c : Thread nD τ).loc main_arg1)) (m ((c : Thread nD τ).loc main_arg2)) (i 0) (i 1)

/-- The region finds the activations as launched, the unit sequence axis dropped. -/
theorem V_x (c : Dev nD) : V m c main_v0 =
    shapeCast S24x14080 (m ((c : Thread nD τ).loc main_arg0)) shapeCasts_S24x1x14080_S24x14080 := by
  unfold V hostOps0
  after_results_simp <;> rfl

/-- Dropping the unit axis of a `[24, 1, 14080]` array reads it at `(r, 0, k)`. -/
theorem unflatten_apply (x : S24x1x14080.Idx → EReal) (r : Fin 24) (k : Fin 14080) :
    shapeCast S24x14080 x shapeCasts_S24x1x14080_S24x14080 (ix2 r k) = x (ix3 r 0 k) := by
  apply shapeCast_apply
  rw [Shape.rowMajor_val_two, Shape.rowMajor_val_three]
  show (r.val * 1 + 0) * 14080 + k.val = r.val * 14080 + k.val
  omega

/-- The activations' block at any point: the whole array. -/
theorem x_apply (c : Dev nD) (t : Fin cfg0.N) (r : Fin 24) (k : Fin 14080) :
    (iblk m c 0 t : Vec Ideal S24x14080 .bf16) (ix2 r k) = m ((c : Thread nD τ).loc main_arg0) (ix3 r 0 k) := by
  have hi : win0_0.index t 0 = 0 ∧ win0_0.index t 1 = 0 := ⟨rfl, rfl⟩
  have e : ((cfg0.win 0).blk t).view.emb (ix2 r k) = (ix2 r k : S24x14080.Idx) := by
    funext a
    apply Fin.ext
    match a with
    | ⟨0, _⟩ => show win0_0.index t 0 * 24 + 1 * r.val = r.val; rw [hi.1]; omega
    | ⟨1, _⟩ => show win0_0.index t 1 * 14080 + 1 * k.val = k.val; rw [hi.2]; omega
  unfold iblk
  rw [View.read_apply, e]
  show V m c main_v0 (ix2 r k) = _
  rw [V_x]
  exact unflatten_apply _ r k

/-- The block index of every window that moves is the point itself. -/
theorem idx_facts : ∀ t : Fin cfg0.N, (win0_1.index t 0 = 0 ∧ win0_1.index t 1 = t.val ∧ win0_1.index t 2 = 0)
    ∧ (win0_2.index t 0 = 0 ∧ win0_2.index t 1 = t.val) ∧ (win0_3.index t 0 = 0 ∧ win0_3.index t 1 = t.val) :=
  (by decide +kernel : ∀ t : Fin grid0.N, (win0_1.index t 0 = 0 ∧ win0_1.index t 1 = t.val ∧ win0_1.index t 2 = 0)
    ∧ (win0_2.index t 0 = 0 ∧ win0_2.index t 1 = t.val) ∧ (win0_3.index t 0 = 0 ∧ win0_3.index t 1 = t.val))

/-- The output channel that column `j` of point `t`'s block is. -/
def chan (t : Fin cfg0.N) (j : Fin 128) : Fin 5504 :=
  ⟨t.val * 128 + j.val, by have := t.isLt; have : cfg0.N = 43 := N_0; omega⟩

/-- The codes' block at point `t`: row `j` of weight `i` is the channel's row of codes. -/
theorem w_apply (c : Dev nD) (t : Fin cfg0.N) (i : Fin 2) (j : Fin 128) (k : Fin 14080) :
    (iblk m c 1 t : Vec Ideal S2x128x14080 .i8) (ix3 i j k) = m ((c : Thread nD τ).loc main_arg1) (ix3 i (chan t j) k) := by
  have hi := (idx_facts t).1
  have e : ((cfg0.win 1).blk t).view.emb (ix3 i j k) = (ix3 i (chan t j) k : S2x5504x14080.Idx) := by
    funext a
    apply Fin.ext
    match a with
    | ⟨0, _⟩ => show win0_1.index t 0 * 2 + 1 * i.val = i.val; rw [hi.1]; omega
    | ⟨1, _⟩ => show win0_1.index t 1 * 128 + 1 * j.val = t.val * 128 + j.val; rw [hi.2.1]; omega
    | ⟨2, _⟩ => show win0_1.index t 2 * 14080 + 1 * k.val = k.val; rw [hi.2.2]; omega
  unfold iblk
  rw [View.read_apply, e]
  exact congrFun (V_main_arg1 m c) _

/-- The scales' block at point `t`. -/
theorem s_apply (c : Dev nD) (t : Fin cfg0.N) (i : Fin 2) (j : Fin 128) :
    (iblk m c 2 t : Vec Ideal S2x128 .f32) (ix2 i j) = m ((c : Thread nD τ).loc main_arg2) (ix2 i (chan t j)) := by
  have hi := (idx_facts t).2.1
  have e : ((cfg0.win 2).blk t).view.emb (ix2 i j) = (ix2 i (chan t j) : S2x5504.Idx) := by
    funext a
    apply Fin.ext
    match a with
    | ⟨0, _⟩ => show win0_2.index t 0 * 2 + 1 * i.val = i.val; rw [hi.1]; omega
    | ⟨1, _⟩ => show win0_2.index t 1 * 128 + 1 * j.val = t.val * 128 + j.val; rw [hi.2]; omega
  unfold iblk
  rw [View.read_apply, e]
  exact congrFun (V_main_arg2 m c) _

theorem hz : (![0, 0] : Fin 2 → Nat) = fun _ => 0 := funext fun a => by fin_cases a <;> rfl

/-- Loading the first weight's row `j` of the codes' block. -/
theorem ld_w0 (X : Vec Ideal S2x128x14080 .i8) (j : Fin 128) (k : Fin 14080) :
    (View.ld X r0_1 : Vec Ideal S1x128x14080 .i8) (ix3 0 j k) = X (ix3 0 j k) := by
  refine congrArg X (funext fun a => Fin.ext ?_)
  match a with
  | ⟨0, _⟩ => rfl
  | ⟨1, _⟩ => show 0 + 1 * j.val = j.val; omega
  | ⟨2, _⟩ => show 0 + 1 * k.val = k.val; omega

/-- Loading the second weight's row `j` of the codes' block. -/
theorem ld_w1 (X : Vec Ideal S2x128x14080 .i8) (j : Fin 128) (k : Fin 14080) :
    (View.ld X r0_3 : Vec Ideal S1x128x14080 .i8) (ix3 0 j k) = X (ix3 1 j k) := by
  refine congrArg X (funext fun a => Fin.ext ?_)
  match a with
  | ⟨0, _⟩ => rfl
  | ⟨1, _⟩ => show 0 + 1 * j.val = j.val; omega
  | ⟨2, _⟩ => show 0 + 1 * k.val = k.val; omega

/-- Loading the first weight's scales. -/
theorem ld_s0 (X : Vec Ideal S2x128 .f32) (j : Fin 128) :
    (View.ld X r0_2 : Vec Ideal S1x128 .f32) (ix2 0 j) = X (ix2 0 j) := by
  refine congrArg X (funext fun a => Fin.ext ?_)
  match a with
  | ⟨0, _⟩ => rfl
  | ⟨1, _⟩ => show 0 + 1 * j.val = j.val; omega

/-- Loading the second weight's scales. -/
theorem ld_s1 (X : Vec Ideal S2x128 .f32) (j : Fin 128) :
    (View.ld X r0_4 : Vec Ideal S1x128 .f32) (ix2 0 j) = X (ix2 1 j) := by
  refine congrArg X (funext fun a => Fin.ext ?_)
  match a with
  | ⟨0, _⟩ => rfl
  | ⟨1, _⟩ => show 0 + 1 * j.val = j.val; omega

/-- Entry `(r, j)` of the output's block at point `t` is entry `(r, chan t j)` of the array. -/
theorem emb_out (t : Fin cfg0.N) (r : Fin 24) (j : Fin 128) :
    ((cfg0.win 3).blk t).view.emb (ix2 r j) = (ix2 r (chan t j) : S24x5504.Idx) := by
  have hi := (idx_facts t).2.2
  funext a
  apply Fin.ext
  match a with
  | ⟨0, _⟩ => show win0_3.index t 0 * 24 + 1 * r.val = r.val; rw [hi.1]; omega
  | ⟨1, _⟩ => show win0_3.index t 1 * 128 + 1 * j.val = t.val * 128 + j.val; rw [hi.2]; omega

/-- What point `t` writes back is block `t` of the gated linear layer. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero (S := S24x128) hz, View.ld_unit_zero (S := S24x14080) hz]
  funext y
  obtain ⟨r, j, rfl⟩ : ∃ (r : Fin 24) (j : Fin 128), y = (ix2 r j : S24x128.Idx) := ⟨y 0, y 1, eq_ix2 y⟩
  rw [View.read_apply, emb_out]
  refine (pay_apply (iblk m c 0 t) (View.ld (iblk m c 1 t) r0_1) (View.ld (iblk m c 2 t) r0_2)
    (View.ld (iblk m c 1 t) r0_3) (View.ld (iblk m c 2 t) r0_4) r j).trans ?_
  show _ = layer (m ((c : Thread nD τ).loc main_arg0)) (m ((c : Thread nD τ).loc main_arg1)) (m ((c : Thread nD τ).loc main_arg2)) r (chan t j)
  exact congrArg₂ gated
    (lin_congr (fun k => x_apply m c t r k) (fun k => (ld_w0 _ j k).trans (w_apply m c t 0 j k)) ((ld_s0 _ j).trans (s_apply m c t 0 j)))
    (lin_congr (fun k => x_apply m c t r k) (fun k => (ld_w1 _ j k).trans (w_apply m c t 1 j k)) ((ld_s1 _ j).trans (s_apply m c t 1 j)))

/-- Every index of the result lies in the block of the point its channel falls in. -/
theorem cover (i : S24x5504.Idx) : ∃ t : Fin cfg0.N, (cfg0.win 3).flush t = true ∧ i ∈ ((cfg0.win 3).blk t).view.set := by
  have h1 : (i 1).val < 5504 := (i 1).isLt
  have hN : cfg0.N = 43 := N_0
  have ht : (i 1).val / 128 < cfg0.N := by omega
  have hj : (i 1).val % 128 < 128 := Nat.mod_lt _ (by decide)
  refine ⟨⟨(i 1).val / 128, ht⟩, flush0_3 _, ?_⟩
  have e := emb_out ⟨(i 1).val / 128, ht⟩ (i 0) ⟨(i 1).val % 128, hj⟩
  have hi : i = (ix2 (i 0) (chan ⟨(i 1).val / 128, ht⟩ ⟨(i 1).val % 128, hj⟩) : S24x5504.Idx) := by
    funext a
    apply Fin.ext
    match a with
    | ⟨0, _⟩ => rfl
    | ⟨1, _⟩ => show (i 1).val = (i 1).val / 128 * 128 + (i 1).val % 128; omega
  have h := View.emb_mem_set (((cfg0.win 3).blk ⟨(i 1).val / 128, ht⟩).view) (ix2 (i 0) ⟨(i 1).val % 128, hj⟩)
  rwa [e, ← hi] at h

/-- So the result array ends holding the gated linear layer. -/
theorem final_o (c : Dev nD) : (dats m 0 c).arrAt 3 cfg0.N = G m c :=
  (dats m 0 c).arrAt_eq_of_cover 3 (G m c) (fun t _ => flushed_eq m c t) cover

/-- The kernel's run: the result array ends holding the gated linear layer of the arguments, which end unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Value.run_blocks (F := Ideal) m ρ)

end Cert.KernelIdeal.KernelValue

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Spec
public import proofs.«01_k».proof.Proof.Ref
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore at zero: it names none. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.RefValue.run m ρ)

/-- At the ideal instance the kernel's result array and the reference's are the gated linear layer of arguments that
    agree. -/
theorem algebraic : Cert.algebraic_KernelIdeal_ReferenceIdeal := by
  intro m ρ m' ρ' _ hagree
  refine ⟨fun c => Cert.KernelIdeal.KernelValue.G m c, Cert.KernelIdeal.KernelValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  rfl

/-- Everything claimed: the three runs, the idealization, and the equality of the two results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
